-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S4x4096 : S_.BroadcastsInDim S4x4096 (![] : Fin 0 → Fin S4x4096.rank)
  bcast_S_S4096x1024 : S_.BroadcastsInDim S4096x1024 (![] : Fin 0 → Fin S4096x1024.rank)
  bcast_S_S2x1024 : S_.BroadcastsInDim S2x1024 (![] : Fin 0 → Fin S2x1024.rank)
  bcast_S_S1024 : S_.BroadcastsInDim S1024 (![] : Fin 0 → Fin S1024.rank)

variable [Facts]

def fn {F : FTy → Type} [FloatOps F] (main_arg0 : FVec F S4x4096x1024 .f32) (main_arg1 : IVec S4x4096 32) (main_arg2 : FVec F S4096x1024 .f32) (main_arg3 : FVec F S2x1024 .f32) (main_arg4 : FVec F S1024 .f32) (main_arg5 : FVec F S1024 .f32) : IVec S4x4096x1024 1 × IVec S4x4096 1 × IVec S4096x1024 1 × IVec S2x1024 1 × IVec S1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 32 := constantI S_ 32 0#32
  let main_v3 : IVec S4x4096 32 := broadcastInDim S4x4096 ![] bcast_S_S4x4096 main_c
  let main_v4 : IVec S4x4096 1 := cmpi .sge main_arg1 main_v3
  let main_c_0 : IVec S_ 32 := constantI S_ 32 1#32
  let main_v5 : IVec S4x4096 32 := broadcastInDim S4x4096 ![] bcast_S_S4x4096 main_c_0
  let main_v6 : IVec S4x4096 1 := cmpi .sle main_arg1 main_v5
  let main_v7 : IVec S4x4096 1 := andi main_v4 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S2x1024 .f32 := Host.absf main_arg3
  let main_cst_2 : FVec F S_ .f32 := constant S_ .f32 0x7F800000#32
  let main_v12 : FVec F S2x1024 .f32 := broadcastInDim S2x1024 ![] bcast_S_S2x1024 main_cst_2
  let main_v13 : IVec S2x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v2, main_v7, main_v10, main_v13, main_v16)
-- ==== Kernel.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S16384x1024 : Shape := ⟨2, ![16384, 1024]⟩
abbrev S16384x1 : Shape := ⟨2, ![16384, 1]⟩
abbrev S1x1024 : Shape := ⟨2, ![1, 1024]⟩
abbrev S2048x1024 : Shape := ⟨2, ![2048, 1024]⟩
abbrev S2048x1 : Shape := ⟨2, ![2048, 1]⟩
abbrev S2048 : Shape := ⟨1, ![2048]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x1, .i32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S4x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S4096x1024, .f32⟩
  | .local _ .vmem, ⟨5, _⟩ => ⟨S2x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let arg0 : BitVec 32 := BitVec.ofNat 32 (i 0).val
  let c2048_i32 : BitVec 32 := 2048#32
  let v2 : BitVec 32 := Scalar.muli arg0 c2048_i32
  let v3 : Index := Scalar.indexCast v2
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S4096 : Shape := ⟨1, ![4096]⟩
abbrev S1x4096 : Shape := ⟨2, ![1, 4096]⟩
abbrev S_ : Shape := ⟨0, ![]⟩
abbrev S1x4096x1 : Shape := ⟨3, ![1, 4096, 1]⟩
abbrev S1 : Shape := ⟨1, ![1]⟩
abbrev S1x1x1 : Shape := ⟨3, ![1, 1, 1]⟩
abbrev S1x4096x1024 : Shape := ⟨3, ![1, 4096, 1024]⟩
abbrev S4x4096x1 : Shape := ⟨3, ![4, 4096, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S4096x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4096, .i32⟩
  | .hbm, ⟨7, _⟩ => ⟨S1x4096, .i32⟩
  | .hbm, ⟨8, _⟩ => ⟨S_, .i32⟩
  | .hbm, ⟨9, _⟩ => ⟨S1x4096, .i32⟩
  | .hbm, ⟨10, _⟩ => ⟨S1x4096, .i1⟩
  | .hbm, ⟨11, _⟩ => ⟨S_, .i32⟩
  | .hbm, ⟨12, _⟩ => ⟨S1x4096, .i32⟩
  | .hbm, ⟨13, _⟩ => ⟨S1x4096, .i32⟩
  | .hbm, ⟨14, _⟩ => ⟨S1x4096, .i32⟩
  | .hbm, ⟨15, _⟩ => ⟨S1x4096x1, .i32⟩
  | .hbm, ⟨16, _⟩ => ⟨S1, .i32⟩
  | .hbm, ⟨17, _⟩ => ⟨S_, .i32⟩
  | .hbm, ⟨18, _⟩ => ⟨S1x4096x1, .i32⟩
  | .hbm, ⟨19, _⟩ => ⟨S1x4096x1, .i1⟩
  | .hbm, ⟨20, _⟩ => ⟨S1x1x1, .i32⟩
  | .hbm, ⟨21, _⟩ => ⟨S1x4096x1, .i32⟩
  | .hbm, ⟨22, _⟩ => ⟨S1x4096x1, .i1⟩
  | .hbm, ⟨23, _⟩ => ⟨S1x4096x1, .i1⟩
  | .hbm, ⟨24, _⟩ => ⟨S_, .i1⟩
  | .hbm, ⟨25, _⟩ => ⟨S1x4096, .i1⟩
  | .hbm, ⟨26, _⟩ => ⟨S1x4096x1024, .f32⟩
  | .hbm, ⟨27, _⟩ => ⟨S1x4096x1024, .i1⟩
  | .hbm, ⟨28, _⟩ => ⟨S_, .f32⟩
  | .hbm, ⟨29, _⟩ => ⟨S1x4096x1024, .f32⟩
  | .hbm, ⟨30, _⟩ => ⟨S1x4096x1024, .f32⟩
  | .hbm, ⟨31, _⟩ => ⟨S_, .i32⟩
  | .hbm, ⟨32, _⟩ => ⟨S4x4096, .i32⟩
  | .hbm, ⟨33, _⟩ => ⟨S4x4096, .i1⟩
  | .hbm, ⟨34, _⟩ => ⟨S_, .i32⟩
  | .hbm, ⟨35, _⟩ => ⟨S4x4096, .i32⟩
  | .hbm, ⟨36, _⟩ => ⟨S4x4096, .i32⟩
  | .hbm, ⟨37, _⟩ => ⟨S4x4096, .i32⟩
  | .hbm, ⟨38, _⟩ => ⟨S4x4096x1, .i32⟩
  | .hbm, ⟨39, _⟩ => ⟨S1, .i32⟩
  | .hbm, ⟨40, _⟩ => ⟨S_, .i32⟩
  | .hbm, ⟨41, _⟩ => ⟨S4x4096x1, .i32⟩
  | .hbm, ⟨42, _⟩ => ⟨S4x4096x1, .i1⟩
  | .hbm, ⟨43, _⟩ => ⟨S1x1x1, .i32⟩
  | .hbm, ⟨44, _⟩ => ⟨S4x4096x1, .i32⟩
  | .hbm, ⟨45, _⟩ => ⟨S4x4096x1, .i1⟩
  | .hbm, ⟨46, _⟩ => ⟨S4x4096x1, .i1⟩
  | .hbm, ⟨47, _⟩ => ⟨S_, .i1⟩
  | .hbm, ⟨48, _⟩ => ⟨S4x4096, .i1⟩
  | .hbm, ⟨49, _⟩ => ⟨S4x4096x1024, .f32⟩
  | .hbm, ⟨50, _⟩ => ⟨S4x4096x1024, .i1⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_1 : Ref sig .tc := ⟨.hbm, 66, rfl⟩
abbrev main_v14 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]
-- ==== Proof.Outs.lean ====
/-
  WHAT THE BODY LEAVES at a grid point: its one store's payload, over the blocks its loads read.
-/
module

public import proofs.«01_k».proof.Proof.Gen.KernelIdeal.Frame
public import proofs.«01_k».proof.Proof.Gen.KernelIdeal.Points
public import Idealize.ShloMosaic.Lib.Pipeline.Value
public import Idealize.ShloMosaic.Lib.Tactic

@[expose] public section

set_option maxRecDepth 16384

noncomputable section

namespace Cert.Outs

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ)

/-- Zero offsets, as the constant function. -/
theorem zeros : (![0, 0] : Fin 2 → Nat) = fun _ => 0 := funext fun a => by fin_cases a <;> rfl

/-- The rows of the position table the body reads at coordinates `i`. -/
def posRows (i : grid0.Coords) (x2 : Vec F S4096x1024 .f32) : Vec F S2048x1024 .f32 :=
  View.ld x2 (Rect.unit (s := S4096x1024) (k0_off1 i) S2048x1024.size (k0_off1_inb i))

/-- The two rows of the segment table. -/
def segRow0 (x3 : Vec F S2x1024 .f32) : Vec F S1x1024 .f32 :=
  View.ld x3 (Rect.unit (s := S2x1024) ![0, 0] S1x1024.size inb_S2x1024_S1x1024_0_0)

def segRow1 (x3 : Vec F S2x1024 .f32) : Vec F S1x1024 .f32 :=
  View.ld x3 (Rect.unit (s := S2x1024) ![1, 0] S1x1024.size inb_S2x1024_S1x1024_1_0)

/-- The body's block as a function of the blocks it reads. -/
def body (i : grid0.Coords) (x0 : Vec F S2048x1024 .f32) (x1 : Vec F S2048x1 .i32) (x2 : Vec F S4096x1024 .f32)
    (x3 : Vec F S2x1024 .f32) (x4 x5 : Vec F S1x1024 .f32) : Vec F S2048x1024 .f32 :=
  k0_pay1 (k0_pay2 x0 (posRows i x2) x1 (segRow0 x3) (segRow1 x3))
    (k0_pay3 x0 (posRows i x2) x1 (segRow0 x3) (segRow1 x3))
    (k0_pay4 x0 (posRows i x2) x1 (segRow0 x3) (segRow1 x3) x4) x5

theorem outsAt_eq (c : Dev nD) (t : Fin cfg0.N) :
    outsAt0 m c t = body (grid0.coords t) (iblk m c 0 t) (iblk m c 1 t) (iblk m c 2 t) (iblk m c 3 t) (iblk m c 4 t)
      (iblk m c 5 t) := by
  unfold outsAt0 out0_A_6
  rw [View.read_writes_eq_canon _ _ _ (cover0_A_6 c _ _ _ _ _ _ _ _ _ _ _ _ _ _ _ _ _ _ _ _ _)]
  unfold kernelRun0_A
  dsimp only
  sl_unfold_words
  rw [View.canon_unit_zero zeros]
  simp only [View.readAt_eq_ld, (hs0_0 t).read_unread, (hs0_1 t).read_unread, (hs0_2 t).read_unread,
    (hs0_3 t).read_unread, (hs0_4 t).read_unread, (hs0_5 t).read_unread, View.ld_unit_zero (S := S2048x1024) zeros,
    View.ld_unit_zero (S := S2048x1) zeros, View.ld_unit_zero (S := S1x1024) zeros]
  rfl

end Cert.Outs

end
-- ==== Proof.Row.lean ====
/-
  ONE ROW OF THE LAYER NORMALISATION, over the extended reals and away from any program: the kernel's formula (the variance
  in one pass, the scale and the shift folded) and the reference's (the variance in two passes, the quotient by the square
  root) are the same number when the row and the gain are finite. The bias may be anything: it is added last on both sides.
-/
module

public import Idealize.ShloMosaic.PureOps.Ideal
public import Idealize.ShloMosaic.PureOps.Ideal.Laws

@[expose] public section

noncomputable section

namespace Cert.Row

open Idealize.ShloMosaic

/-- The kernel's factor 1/1024, the variance's small term and the reference's divisor, as the programs spell them. -/
abbrev recip : EReal := Ideal.ofBits .f32 0x3A800000#32
abbrev small : EReal := Ideal.ofBits .f32 0x2B8CBCCC#32
abbrev width : EReal := Ideal.ofBits .f32 0x44800000#32

theorem recip_eq : recip = ((1 / 1024 : ℝ) : EReal) := by
  simp [recip, Ideal.ofBits, Ideal.ieee, -EReal.coe_mul]; norm_num

theorem width_eq : width = ((1024 : ℝ) : EReal) := by
  simp [width, Ideal.ofBits, Ideal.ieee, -EReal.coe_mul]; norm_num

theorem small_pos : ∃ r : ℝ, 0 < r ∧ small = (r : EReal) := by
  refine ⟨_, ?_, by simp [small, Ideal.ofBits, Ideal.ieee, -EReal.coe_mul]; rfl⟩
  norm_num

theorem zero_eq : Ideal.ofBits .f32 0x00000000#32 = (0 : EReal) := by
  simp [Ideal.ofBits, Ideal.ieee]

/-- The kernel's mean of a row, its scale at a gain, and its result at a column. -/
def kMean (e : Fin 1024 → EReal) : EReal := (∑ k, e k) * recip

def kScale (e : Fin 1024 → EReal) (g : EReal) : EReal :=
  Ideal.rsqrt ((∑ k, e k * e k) * recip - kMean e * kMean e + small) * g

def kRow (e : Fin 1024 → EReal) (g b : EReal) (j : Fin 1024) : EReal :=
  e j * kScale e g + (b - kMean e * kScale e g)

/-- The reference's mean of a row, its deviation, and its result at a column. -/
def rMean (e : Fin 1024 → EReal) : EReal := Ideal.div (∑ k, e k) width

def rDev (e : Fin 1024 → EReal) : EReal :=
  Ideal.sqrt (Ideal.div (∑ k, (e k - rMean e) * (e k - rMean e)) width + small)

def rRow (e : Fin 1024 → EReal) (g b : EReal) (j : Fin 1024) : EReal :=
  Ideal.div (e j - rMean e) (rDev e) * g + b

/-- A sum of finite numbers is the finite number their sum is. -/
theorem sum_coe (f : Fin 1024 → ℝ) : (∑ k, (f k : EReal)) = ((∑ k, f k : ℝ) : EReal) :=
  (map_sum (⟨⟨Real.toEReal, rfl⟩, EReal.coe_add⟩ : ℝ →+ EReal) f Finset.univ).symm

/-- The variance in one pass is the variance in two. -/
theorem variance (e : Fin 1024 → ℝ) :
    (∑ k, e k * e k) * (1 / 1024) - (∑ k, e k) * (1 / 1024) * ((∑ k, e k) * (1 / 1024))
      = (∑ k, (e k - (∑ k, e k) * (1 / 1024)) * (e k - (∑ k, e k) * (1 / 1024))) * (1 / 1024) := by
  generalize hS : (∑ k, e k) = S
  have h : ∀ k, (e k - S * (1 / 1024)) * (e k - S * (1 / 1024))
      = e k * e k - (2 * (S * (1 / 1024))) * e k + S * (1 / 1024) * (S * (1 / 1024)) := fun k => by ring
  rw [Finset.sum_congr rfl fun k _ => h k, Finset.sum_add_distrib, Finset.sum_sub_distrib, ← Finset.mul_sum, hS]
  simp only [Finset.sum_const, Finset.card_univ, Fintype.card_fin, nsmul_eq_mul]
  push_cast
  ring

/-- THE ROW: the kernel's result is the reference's, at every column, for a finite row and a finite gain. -/
theorem kRow_eq_rRow (e : Fin 1024 → ℝ) (g : ℝ) (b : EReal) (j : Fin 1024) :
    kRow (fun k => (e k : EReal)) g b j = rRow (fun k => (e k : EReal)) g b j := by
  obtain ⟨r, hr, hs⟩ := small_pos
  have hv := variance e
  set μ : ℝ := (∑ k, e k) * (1 / 1024) with hμ
  set v : ℝ := (∑ k, (e k - μ) * (e k - μ)) * (1 / 1024) with hvd
  have hv0 : 0 ≤ v := mul_nonneg (Finset.sum_nonneg fun k _ => mul_self_nonneg _) (by norm_num)
  have hpos : 0 < v + r := by linarith
  have hk : kMean (fun k => (e k : EReal)) = (μ : EReal) := by
    unfold kMean; rw [sum_coe, recip_eq, ← EReal.coe_mul]
  have hm : rMean (fun k => (e k : EReal)) = (μ : EReal) := by
    unfold rMean; rw [sum_coe, width_eq, Ideal.div_coe (by norm_num), ← EReal.coe_mul]
  have hsc : kScale (fun k => (e k : EReal)) g = (((Real.sqrt (v + r))⁻¹ * g : ℝ) : EReal) := by
    unfold kScale
    rw [hk, recip_eq, hs]
    simp only [← EReal.coe_mul]
    rw [sum_coe (fun k => e k * e k), ← EReal.coe_mul, ← EReal.coe_sub, hv, ← EReal.coe_add, Ideal.rsqrt_coe,
      if_neg (not_lt.mpr hpos.le), if_neg hpos.ne', ← EReal.coe_mul]
  have hd : rDev (fun k => (e k : EReal)) = ((Real.sqrt (v + r) : ℝ) : EReal) := by
    unfold rDev
    rw [hm, width_eq, hs]
    simp only [← EReal.coe_sub, ← EReal.coe_mul]
    rw [sum_coe (fun k => (e k - μ) * (e k - μ)), Ideal.div_coe (by norm_num), ← EReal.coe_mul, ← EReal.coe_add,
      Ideal.sqrt_coe, if_neg (not_lt.mpr hpos.le)]
  have hq : Real.sqrt (v + r) ≠ 0 := (Real.sqrt_pos.mpr hpos).ne'
  unfold kRow rRow
  rw [hk, hm, hsc, hd, Ideal.div_coe hq]
  generalize Real.sqrt (v + r) = q at hq ⊢
  simp only [← EReal.coe_sub, ← EReal.coe_mul]
  have key : ∀ x y : ℝ, (x : EReal) + (b - (y : EReal)) = ((x - y : ℝ) : EReal) + b := fun x y => by
    induction b with
    | bot => simp
    | top => rw [EReal.top_sub_coe, EReal.coe_add_top, EReal.coe_add_top]
    | coe b => rw [← EReal.coe_sub, ← EReal.coe_add, ← EReal.coe_add]; exact congrArg _ (by ring)
  rw [key]
  exact congrArg (fun z : ℝ => (z : EReal) + b) (by ring)

end Cert.Row

end
-- ==== Proof.Embed.lean ====
/-
  THE EMBEDDED ROW both programs normalise, as a function of the arguments: the input row, the row of the position table at
  its position, and the row of the segment table its segment id names.
-/
module

public import Idealize.ShloMosaic.Lib.ValueIdx
public import proofs.«01_k».proof.Proof.Row

@[expose] public section

noncomputable section

namespace Cert.Embed

open Idealize.ShloMosaic Idealize.ShloMosaic.ValueIdx

/-- The segment row of an id: row 0 for the id 0, row 1 otherwise. -/
def segment (x3 : FVec Ideal ⟨2, ![2, 1024]⟩ .f32) (w : BitVec 32) (l : Fin 1024) : EReal :=
  if w = 0#32 then x3 (ix2 0 l) else x3 (ix2 1 l)

/-- The row at batch `b` and position `s`. -/
def embed (x0 : FVec Ideal ⟨3, ![4, 4096, 1024]⟩ .f32) (x1 : IVec ⟨2, ![4, 4096]⟩ 32)
    (x2 : FVec Ideal ⟨2, ![4096, 1024]⟩ .f32) (x3 : FVec Ideal ⟨2, ![2, 1024]⟩ .f32) (b : Fin 4) (s : Fin 4096)
    (l : Fin 1024) : EReal :=
  x0 (ix3 b s l) + x2 (ix2 s l) + segment x3 (x1 (ix2 b s)) l

end Cert.Embed

end
-- ==== Proof.Block.lean ====
/-
  ONE BLOCK OF THE KERNEL at an index: what the body computes from the blocks it reads is the row formula of Proof/Row.lean,
  at the row it embeds.
-/
module

public import proofs.«01_k».proof.Proof.Gen.KernelIdeal.Skeleton
public import Idealize.ShloMosaic.Lib.Pointwise
public import proofs.«01_k».proof.Proof.Embed

@[expose] public section

noncomputable section

namespace Cert.Block

open Cert.KernelIdeal Cert.KernelIdeal.Gen
open Idealize.ShloMosaic

variable (v0 v4 : FVec Ideal S2048x1024 .f32) (v5 : IVec S2048x1 32) (v9 v10 v34 v39 : FVec Ideal S1x1024 .f32)

/-- The row a block embeds: the input row, the position row, and the segment row the id picks. -/
def row (p : Fin 2048) (k : Fin 1024) : EReal :=
  v0 (ix2 p k) + v4 (ix2 p k) + if v5 (ix2 p 0) = 0#32 then v9 (ix2 0 k) else v10 (ix2 0 k)

/-- Choosing by an integer comparison is choosing by the equality. -/
theorem pick (w : BitVec 32) (a b : EReal) :
    Scalar.select (IntOp.cmpi CmpIPredicate.eq w 0#32) a b = if w = 0#32 then a else b := by
  by_cases h : w = 0#32
  · rw [if_pos h, h]
    rfl
  · rw [if_neg h]
    show (if BitVec.ofBool (w == 0#32) = 1#1 then a else b) = b
    rw [beq_eq_false_iff_ne.mpr h]
    rfl

theorem pay2_apply (p : Fin 2048) (k : Fin 1024) :
    k0_pay2 (F := Ideal) v0 v4 v5 v9 v10 (ix2 p k) = row v0 v4 v5 v9 v10 p k := by
  unfold row
  pointwise [k0_pay2]
  rw [pick]

theorem pay3_apply (p : Fin 2048) :
    k0_pay3 (F := Ideal) v0 v4 v5 v9 v10 (ix2 p 0) = Row.kMean (row v0 v4 v5 v9 v10 p) := by
  unfold Row.kMean
  simp only [← pay2_apply]
  pointwise [k0_pay3]

theorem pay4_apply (p : Fin 2048) (l : Fin 1024) :
    k0_pay4 (F := Ideal) v0 v4 v5 v9 v10 v34 (ix2 p l) = Row.kScale (row v0 v4 v5 v9 v10 p) (v34 (ix2 0 l)) := by
  unfold Row.kScale
  simp only [← pay2_apply, ← pay3_apply]
  pointwise [k0_pay4]

/-- THE BLOCK AT AN INDEX. -/
theorem pay1_apply (p : Fin 2048) (l : Fin 1024) :
    k0_pay1 (F := Ideal) (k0_pay2 v0 v4 v5 v9 v10) (k0_pay3 v0 v4 v5 v9 v10) (k0_pay4 v0 v4 v5 v9 v10 v34) v39 (ix2 p l)
      = Row.kRow (row v0 v4 v5 v9 v10 p) (v34 (ix2 0 l)) (v39 (ix2 0 l)) l := by
  unfold Row.kRow
  simp only [← pay2_apply, ← pay3_apply, ← pay4_apply]
  pointwise [k0_pay1]

end Cert.Block

end
-- ==== Proof.Blocks.lean ====
/-
  THE INPUT BLOCKS at an index, in terms of the arrays the region finds: point t works on rows 2048·(2·(t mod 4) + t/4) and
  up of the flattened arrays, and on rows 2048·(t/4) and up of the position table.
-/
module

public import proofs.«01_k».proof.Proof.Outs
public import proofs.«01_k».proof.Proof.Block

@[expose] public section

set_option maxRecDepth 16384

noncomputable section

namespace Cert.Blocks

open Cert.KernelIdeal Cert.KernelIdeal.Gen
open Idealize.ShloMosaic Idealize.ShloMosaic.TcCoe Idealize.SL.Sem
open Idealize.ShloMosaic.Pipeline (Dat)

/-- The row block of point `t`, and the half of the sequence it lies in. -/
def blockOf (t : Fin cfg0.N) : Nat := 2 * (t.val % 4) + t.val / 4

theorem lt8 (t : Fin cfg0.N) : t.val < 8 := lt_of_lt_of_eq t.isLt N_0

theorem index_x : ∀ t : Fin cfg0.N, win0_0.index t 0 = blockOf t ∧ win0_0.index t 1 = 0 :=
  (by decide +kernel : ∀ t : Fin grid0.N, win0_0.index t 0 = 2 * (t.val % 4) + t.val / 4 ∧ win0_0.index t 1 = 0)

theorem index_w : ∀ t : Fin cfg0.N, win0_1.index t 0 = blockOf t ∧ win0_1.index t 1 = 0 :=
  (by decide +kernel : ∀ t : Fin grid0.N, win0_1.index t 0 = 2 * (t.val % 4) + t.val / 4 ∧ win0_1.index t 1 = 0)

theorem index_out : ∀ t : Fin cfg0.N, win0_6.index t 0 = blockOf t ∧ win0_6.index t 1 = 0 :=
  (by decide +kernel : ∀ t : Fin grid0.N, win0_6.index t 0 = 2 * (t.val % 4) + t.val / 4 ∧ win0_6.index t 1 = 0)

theorem coord : ∀ t : Fin cfg0.N, (grid0.coords t 0).val = t.val / 4 :=
  (by decide +kernel : ∀ t : Fin grid0.N, (grid0.coords t 0).val = t.val / 4)

theorem index_pos (t : Fin cfg0.N) (a : Fin 2) : win0_2.index t a = 0 := by
  fin_cases a <;> rfl
theorem index_seg (t : Fin cfg0.N) (a : Fin 2) : win0_3.index t a = 0 := by
  fin_cases a <;> rfl
theorem index_gamma (t : Fin cfg0.N) (a : Fin 2) : win0_4.index t a = 0 := by
  fin_cases a <;> rfl
theorem index_beta (t : Fin cfg0.N) (a : Fin 2) : win0_5.index t a = 0 := by
  fin_cases a <;> rfl

/-- The flattened row that row `p` of point `t`'s block is. -/
def flatRow (t : Fin cfg0.N) (p : Fin 2048) : Fin 16384 :=
  ⟨2048 * blockOf t + p.val, by have := lt8 t; have := p.isLt; unfold blockOf; omega⟩

/-- The position it has in its sequence. -/
def posRow (t : Fin cfg0.N) (p : Fin 2048) : Fin 4096 :=
  ⟨2048 * (t.val / 4) + p.val, by have := lt8 t; have := p.isLt; omega⟩

theorem posRow_eq (t : Fin cfg0.N) (p : Fin 2048) : (posRow t p).val = (flatRow t p).val % 4096 := by
  have := lt8 t; have := p.isLt
  unfold posRow flatRow blockOf
  dsimp only
  omega

variable {F : FTy → Type} [FloatOps F]
variable (m : (ℓ : Loc nD τ sig) → Buf (Elt F) ℓ)

theorem iblk_x (c : Dev nD) (t : Fin cfg0.N) (p : Fin 2048) (k : Fin 1024) :
    (iblk m c 0 t : Vec F S2048x1024 .f32) (ix2 p k) = V m c main_v0 (ix2 (flatRow t p) k) := by
  unfold iblk
  rw [View.read_apply]
  show V m c main_v0 _ = V m c main_v0 _
  congr 1
  funext a
  apply Fin.ext
  match a with
  | ⟨0, _⟩ => show win0_0.index t 0 * 2048 + 1 * p.val = 2048 * blockOf t + p.val; rw [(index_x t).1]; omega
  | ⟨1, _⟩ => show win0_0.index t 1 * 1024 + 1 * k.val = k.val; rw [(index_x t).2]; omega

theorem iblk_w (c : Dev nD) (t : Fin cfg0.N) (p : Fin 2048) :
    (iblk m c 1 t : Vec F S2048x1 .i32) (ix2 p 0) = V m c main_v1 (ix2 (flatRow t p) 0) := by
  unfold iblk
  rw [View.read_apply]
  show V m c main_v1 _ = V m c main_v1 _
  congr 1
  funext a
  apply Fin.ext
  match a with
  | ⟨0, _⟩ => show win0_1.index t 0 * 2048 + 1 * p.val = 2048 * blockOf t + p.val; rw [(index_w t).1]; omega
  | ⟨1, _⟩ => show win0_1.index t 1 * 1 + 1 * 0 = 0; rw [(index_w t).2]

theorem iblk_pos (c : Dev nD) (t : Fin cfg0.N) (r : Fin 4096) (k : Fin 1024) :
    (iblk m c 2 t : Vec F S4096x1024 .f32) (ix2 r k) = V m c main_arg2 (ix2 r k) := by
  unfold iblk
  rw [View.read_apply]
  show V m c main_arg2 _ = V m c main_arg2 _
  congr 1
  funext a
  apply Fin.ext
  match a with
  | ⟨0, _⟩ => show win0_2.index t 0 * 4096 + 1 * r.val = r.val; rw [index_pos]; omega
  | ⟨1, _⟩ => show win0_2.index t 1 * 1024 + 1 * k.val = k.val; rw [index_pos]; omega

theorem iblk_seg (c : Dev nD) (t : Fin cfg0.N) (r : Fin 2) (k : Fin 1024) :
    (iblk m c 3 t : Vec F S2x1024 .f32) (ix2 r k) = V m c main_arg3 (ix2 r k) := by
  unfold iblk
  rw [View.read_apply]
  show V m c main_arg3 _ = V m c main_arg3 _
  congr 1
  funext a
  apply Fin.ext
  match a with
  | ⟨0, _⟩ => show win0_3.index t 0 * 2 + 1 * r.val = r.val; rw [index_seg]; omega
  | ⟨1, _⟩ => show win0_3.index t 1 * 1024 + 1 * k.val = k.val; rw [index_seg]; omega

theorem iblk_gamma (c : Dev nD) (t : Fin cfg0.N) (k : Fin 1024) :
    (iblk m c 4 t : Vec F S1x1024 .f32) (ix2 0 k) = V m c main_v2 (ix2 0 k) := by
  unfold iblk
  rw [View.read_apply]
  show V m c main_v2 _ = V m c main_v2 _
  congr 1
  funext a
  apply Fin.ext
  match a with
  | ⟨0, _⟩ => show win0_4.index t 0 * 1 + 1 * 0 = 0; rw [index_gamma]
  | ⟨1, _⟩ => show win0_4.index t 1 * 1024 + 1 * k.val = k.val; rw [index_gamma]; omega

theorem iblk_beta (c : Dev nD) (t : Fin cfg0.N) (k : Fin 1024) :
    (iblk m c 5 t : Vec F S1x1024 .f32) (ix2 0 k) = V m c main_v3 (ix2 0 k) := by
  unfold iblk
  rw [View.read_apply]
  show V m c main_v3 _ = V m c main_v3 _
  congr 1
  funext a
  apply Fin.ext
  match a with
  | ⟨0, _⟩ => show win0_5.index t 0 * 1 + 1 * 0 = 0; rw [index_beta]
  | ⟨1, _⟩ => show win0_5.index t 1 * 1024 + 1 * k.val = k.val; rw [index_beta]; omega

/-- The rows of the position table the body reads, at an index. -/
theorem posRows_apply (t : Fin cfg0.N) (x2 : Vec F S4096x1024 .f32) (p : Fin 2048) (k : Fin 1024) :
    Outs.posRows (grid0.coords t) x2 (ix2 p k) = x2 (ix2 (posRow t p) k) := by
  unfold Outs.posRows
  show x2 _ = x2 _
  congr 1
  funext a
  apply Fin.ext
  match a with
  | ⟨0, _⟩ =>
    show k0_off1 (grid0.coords t) 0 + 1 * p.val = 2048 * (t.val / 4) + p.val
    rw [congrFun (k0_off1_eq (grid0.coords t)) 0]
    show 2048 * (grid0.coords t 0).val + 1 * p.val = _
    rw [coord]; omega
  | ⟨1, _⟩ =>
    show k0_off1 (grid0.coords t) 1 + 1 * k.val = k.val
    rw [congrFun (k0_off1_eq (grid0.coords t)) 1]
    show 0 + 1 * k.val = _
    omega

theorem segRow0_apply (x3 : Vec F S2x1024 .f32) (k : Fin 1024) : Outs.segRow0 x3 (ix2 0 k) = x3 (ix2 0 k) := by
  unfold Outs.segRow0
  show x3 _ = x3 _
  congr 1
  funext a
  apply Fin.ext
  match a with
  | ⟨0, _⟩ => rfl
  | ⟨1, _⟩ => show 0 + 1 * k.val = k.val; omega

theorem segRow1_apply (x3 : Vec F S2x1024 .f32) (k : Fin 1024) : Outs.segRow1 x3 (ix2 0 k) = x3 (ix2 1 k) := by
  unfold Outs.segRow1
  show x3 _ = x3 _
  congr 1
  funext a
  apply Fin.ext
  match a with
  | ⟨0, _⟩ => rfl
  | ⟨1, _⟩ => show 0 + 1 * k.val = k.val; omega

end Cert.Blocks

end
-- ==== Proof.Array.lean ====
/-
  THE REGION'S RESULT: after the eight points the flattened result array holds the row formula at every row, because each
  point writes back one block of 2048 rows and the eight blocks cover the array.
-/
module

public import proofs.«01_k».proof.Proof.Blocks

@[expose] public section

set_option maxRecDepth 16384

noncomputable section

namespace Cert.Array

open Cert.KernelIdeal Cert.KernelIdeal.Gen Cert.Blocks
open Idealize.ShloMosaic Idealize.ShloMosaic.TcCoe Idealize.SL.Sem
open Idealize.ShloMosaic.Pipeline (Dat)

/-- The row the flattened arrays embed at row `r`. -/
def flat (y0 : FVec Ideal S16384x1024 .f32) (y1 : IVec S16384x1 32) (x2 : FVec Ideal S4096x1024 .f32)
    (x3 : FVec Ideal S2x1024 .f32) (r : Fin 16384) (k : Fin 1024) : EReal :=
  y0 (ix2 r k) + x2 (ix2 ⟨r.val % 4096, Nat.mod_lt _ (by decide)⟩ k)
    + if y1 (ix2 r 0) = 0#32 then x3 (ix2 0 k) else x3 (ix2 1 k)

/-- The flattened result as a function of the arrays the region finds. -/
def flatResult (y0 : FVec Ideal S16384x1024 .f32) (y1 : IVec S16384x1 32) (x2 : FVec Ideal S4096x1024 .f32)
    (x3 : FVec Ideal S2x1024 .f32) (y4 y5 : FVec Ideal S1x1024 .f32) : FVec Ideal S16384x1024 .f32 :=
  fun i => Row.kRow (flat y0 y1 x2 x3 (i 0)) (y4 (ix2 0 (i 1))) (y5 (ix2 0 (i 1))) (i 1)

variable (m : (ℓ : Loc nD τ sig) → Buf (Elt Ideal) ℓ)

/-- The flattened result on core `c`. -/
def result (c : Dev nD) : Buf (Elt Ideal) ((c : Thread nD τ).loc main_v4) :=
  flatResult (V m c main_v0) (V m c main_v1) (V m c main_arg2) (V m c main_arg3) (V m c main_v2) (V m c main_v3)

/-- The row a point's block embeds is the flattened array's. -/
theorem row_eq (c : Dev nD) (t : Fin cfg0.N) (p : Fin 2048) :
    Block.row (iblk m c 0 t) (Outs.posRows (grid0.coords t) (iblk m c 2 t)) (iblk m c 1 t) (Outs.segRow0 (iblk m c 3 t))
      (Outs.segRow1 (iblk m c 3 t)) p
      = flat (V m c main_v0) (V m c main_v1) (V m c main_arg2) (V m c main_arg3) (flatRow t p) := by
  funext k
  unfold Block.row flat
  rw [iblk_x, iblk_w, posRows_apply, segRow0_apply, segRow1_apply, iblk_pos, iblk_seg, iblk_seg]
  rw [show posRow t p = ⟨(flatRow t p).val % 4096, Nat.mod_lt _ (by decide)⟩ from Fin.ext (posRow_eq t p)]

/-- What a point leaves in its block, at an index. -/
theorem outs_apply (c : Dev nD) (t : Fin cfg0.N) (p : Fin 2048) (l : Fin 1024) :
    outsAt0 m c t (ix2 p l) = result m c (ix2 (flatRow t p) l) := by
  rw [Outs.outsAt_eq]
  unfold Outs.body
  rw [Block.pay1_apply, row_eq, iblk_gamma, iblk_beta]
  rfl

/-- Every write-back is its block of the result. -/
theorem flushed_eq (c : Dev nD) (t : Fin cfg0.N) (_ : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  funext j
  rw [View.read_apply]
  show outsAt0 m c t (fun a => j a) = _
  have hj : (fun a => j a : S2048x1024.Idx) = ix2 (j 0 : Fin 2048) (j 1 : Fin 1024) := by
    funext a
    match a with
    | ⟨0, _⟩ => rfl
    | ⟨1, _⟩ => rfl
  refine (congrArg (outsAt0 m c t) hj).trans ((outs_apply m c t _ _).trans ?_)
  show result m c _ = result m c _
  congr 1
  funext a
  apply Fin.ext
  match a with
  | ⟨0, _⟩ =>
    show 2048 * blockOf t + (j 0 : Nat) = win0_6.index t 0 * 2048 + 1 * (j 0 : Nat)
    rw [(index_out t).1]; omega
  | ⟨1, _⟩ =>
    show (j 1 : Nat) = win0_6.index t 1 * 1024 + 1 * (j 1 : Nat)
    rw [(index_out t).2]; omega

/-- The point whose block holds row `r`. -/
def pointOf (r : Nat) : Nat := (r / 2048 % 2) * 4 + r / 2048 / 2

theorem blockOf_pointOf : ∀ q : Fin 8, 2 * (((q.val % 2) * 4 + q.val / 2) % 4) + ((q.val % 2) * 4 + q.val / 2) / 4 = q.val := by
  decide

/-- Every index of the array lies in some point's block. -/
theorem covered (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  obtain ⟨t, ht⟩ : ∃ t : Fin cfg0.N, t.val = pointOf (i 0).val :=
    ⟨⟨pointOf (i 0).val, lt_of_lt_of_eq (by unfold pointOf; omega) N_0.symm⟩, rfl⟩
  refine ⟨t, flush0_6 t, ?_⟩
  show i ∈ ((View.whole main_v4).slice (win0_6.rect t)).set
  rw [View.set_slice_whole, Rect.mem_set_unit]
  intro a
  match a with
  | ⟨0, _⟩ =>
    show win0_6.index t 0 * 2048 ≤ (i 0 : Nat) ∧ (i 0 : Nat) < win0_6.index t 0 * 2048 + 2048
    rw [(index_out t).1]
    have hb : blockOf t = (i 0).val / 2048 := by
      unfold blockOf
      rw [ht]
      exact blockOf_pointOf ⟨(i 0).val / 2048, by omega⟩
    rw [hb]
    omega
  | ⟨1, _⟩ =>
    show win0_6.index t 1 * 1024 ≤ (i 1 : Nat) ∧ (i 1 : Nat) < win0_6.index t 1 * 1024 + 1024
    rw [(index_out t).2]
    omega

/-- THE FINAL ARRAY. -/
theorem final (c : Dev nD) : (dats m 0 c).arrAt 6 cfg0.N = result m c :=
  (dats m 0 c).arrAt_eq_of_cover 6 (result m c) (flushed_eq m c) covered

end Cert.Array

end
-- ==== Proof.KernelRun.lean ====
/-
  THE KERNEL'S RUN, read: its result array is the row formula of the embedded rows, and its arguments end unchanged. The
  reshapes before and after the region keep the row-major order, so they only rename the rows.
-/
module

public import proofs.«01_k».proof.Proof.Array
public import Idealize.ShloMosaic.Lib.StableHlo.Run

@[expose] public section

set_option maxRecDepth 16384

noncomputable section

namespace Cert.KernelRun

open Cert.KernelIdeal Cert.KernelIdeal.Gen
open Idealize.ShloMosaic Idealize.ShloMosaic.TcCoe Idealize.SL.Sem
open Idealize.ShloMosaic.Pipeline (Dat)

section Host

variable {F : FTy → Type} [FloatOps F]
variable (m : (ℓ : Loc nD τ sig) → Buf (Elt F) ℓ)

theorem host_x (c : Dev nD) : (V m c main_v0 : FVec F S16384x1024 .f32)
    = shapeCast S16384x1024 (m ((c : Thread nD τ).loc main_arg0) : FVec F S4x4096x1024 .f32) shapeCasts_S4x4096x1024_S16384x1024 := by
  show StableHlo.after hostOps0 _ (Proc.devRef .tc main_v0) = _
  after_results
  rfl

theorem host_w (c : Dev nD) : (V m c main_v1 : IVec S16384x1 32)
    = shapeCast S16384x1 (m ((c : Thread nD τ).loc main_arg1) : IVec S4x4096 32) shapeCasts_S4x4096_S16384x1 := by
  show StableHlo.after hostOps0 _ (Proc.devRef .tc main_v1) = _
  after_results
  rfl

theorem host_gamma (c : Dev nD) : (V m c main_v2 : FVec F S1x1024 .f32)
    = shapeCast S1x1024 (m ((c : Thread nD τ).loc main_arg4) : FVec F S1024 .f32) shapeCasts_S1024_S1x1024 := by
  show StableHlo.after hostOps0 _ (Proc.devRef .tc main_v2) = _
  after_results
  rfl

theorem host_beta (c : Dev nD) : (V m c main_v3 : FVec F S1x1024 .f32)
    = shapeCast S1x1024 (m ((c : Thread nD τ).loc main_arg5) : FVec F S1024 .f32) shapeCasts_S1024_S1x1024 := by
  show StableHlo.after hostOps0 _ (Proc.devRef .tc main_v3) = _
  after_results
  rfl

/-- The host operation after the region: the result is the region's array, reshaped. -/
theorem tail (c : Dev nD) : (Pipeline.afterTail₀ cfgs (dats m) 0 (V0 m) [hostOps1] c main_v5 : FVec F S4x4096x1024 .f32)
    = shapeCast S4x4096x1024 ((dats m 0 c).arrAt 6 cfg0.N : FVec F S16384x1024 .f32) shapeCasts_S16384x1024_S4x4096x1024 := by
  unfold Pipeline.afterTail₀
  show StableHlo.after hostOps1 _ (Proc.devRef .tc main_v5) = _
  after_results
  exact congrArg (fun a : FVec F S16384x1024 .f32 => shapeCast S4x4096x1024 a shapeCasts_S16384x1024_S4x4096x1024)
    (Pipeline.withArrays_arr spec0 winFacts0.arr_inj c (V0 m c) (fun w => (dats m 0 c).arrAt w cfg0.N) 6)

end Host

/-- The flattened row of a batch and a position. -/
def rowOf (b : Fin 4) (s : Fin 4096) : Fin 16384 := ⟨4096 * b.val + s.val, by have := b.isLt; have := s.isLt; omega⟩

theorem cast_x (x : FVec Ideal S4x4096x1024 .f32) (b : Fin 4) (s : Fin 4096) (l : Fin 1024) :
    shapeCast S16384x1024 x shapeCasts_S4x4096x1024_S16384x1024 (ix2 (rowOf b s) l) = x (ix3 b s l) :=
  shapeCast_apply _ _ _ _ (by
    rw [Shape.rowMajor_val_two, Shape.rowMajor_val_three]
    show (b.val * 4096 + s.val) * 1024 + l.val = (4096 * b.val + s.val) * 1024 + l.val
    omega)

theorem cast_w (x : IVec S4x4096 32) (b : Fin 4) (s : Fin 4096) :
    shapeCast S16384x1 x shapeCasts_S4x4096_S16384x1 (ix2 (rowOf b s) 0) = x (ix2 b s) :=
  shapeCast_apply _ _ _ _ (by
    rw [Shape.rowMajor_val_two, Shape.rowMajor_val_two]
    show b.val * 4096 + s.val = (4096 * b.val + s.val) * 1 + 0
    omega)

theorem cast_vec (x : FVec Ideal S1024 .f32) (l : Fin 1024) :
    shapeCast S1x1024 x shapeCasts_S1024_S1x1024 (ix2 0 l) = x (ix1 l) :=
  shapeCast_apply _ _ _ _ (by
    rw [Shape.rowMajor_val_two, Shape.rowMajor_val_one]
    show l.val = 0 * 1024 + l.val
    omega)

theorem cast_out (y : FVec Ideal S16384x1024 .f32) (b : Fin 4) (s : Fin 4096) (l : Fin 1024) :
    shapeCast S4x4096x1024 y shapeCasts_S16384x1024_S4x4096x1024 (ix3 b s l) = y (ix2 (rowOf b s) l) :=
  shapeCast_apply _ _ _ _ (by
    rw [Shape.rowMajor_val_two, Shape.rowMajor_val_three]
    show (4096 * b.val + s.val) * 1024 + l.val = (b.val * 4096 + s.val) * 1024 + l.val
    omega)

/-- The kernel's result as a function of its arguments. -/
def value (x0 : FVec Ideal S4x4096x1024 .f32) (x1 : IVec S4x4096 32) (x2 : FVec Ideal S4096x1024 .f32)
    (x3 : FVec Ideal S2x1024 .f32) (x4 x5 : FVec Ideal S1024 .f32) : FVec Ideal S4x4096x1024 .f32 :=
  shapeCast S4x4096x1024 (Array.flatResult (shapeCast S16384x1024 x0 shapeCasts_S4x4096x1024_S16384x1024)
    (shapeCast S16384x1 x1 shapeCasts_S4x4096_S16384x1) x2 x3 (shapeCast S1x1024 x4 shapeCasts_S1024_S1x1024)
    (shapeCast S1x1024 x5 shapeCasts_S1024_S1x1024)) shapeCasts_S16384x1024_S4x4096x1024

/-- THE RESULT AT AN INDEX: the row formula of the embedded row. -/
theorem value_apply (x0 : FVec Ideal S4x4096x1024 .f32) (x1 : IVec S4x4096 32) (x2 : FVec Ideal S4096x1024 .f32)
    (x3 : FVec Ideal S2x1024 .f32) (x4 x5 : FVec Ideal S1024 .f32) (b : Fin 4) (s : Fin 4096) (l : Fin 1024) :
    value x0 x1 x2 x3 x4 x5 (ix3 b s l)
      = Row.kRow (Embed.embed x0 x1 x2 x3 b s) (x4 (ix1 l)) (x5 (ix1 l)) l := by
  have hs : (⟨(rowOf b s).val % 4096, Nat.mod_lt _ (by decide)⟩ : Fin 4096) = s := by
    apply Fin.ext
    have := s.isLt
    unfold rowOf
    dsimp only
    omega
  have hrow : Array.flat (shapeCast S16384x1024 x0 shapeCasts_S4x4096x1024_S16384x1024)
      (shapeCast S16384x1 x1 shapeCasts_S4x4096_S16384x1) x2 x3 (rowOf b s) = Embed.embed x0 x1 x2 x3 b s := by
    funext k
    unfold Array.flat Embed.embed Embed.segment
    rw [cast_x, cast_w, hs]
    simp only [ix2_eq_valueIdx, ix3_eq_valueIdx]
  unfold value
  rw [cast_out]
  show Row.kRow (Array.flat _ _ _ _ (rowOf b s)) (shapeCast S1x1024 x4 shapeCasts_S1024_S1x1024 (ix2 0 l))
    (shapeCast S1x1024 x5 shapeCasts_S1024_S1x1024 (ix2 0 l)) l = _
  rw [hrow, cast_vec, cast_vec]

variable (m : (ℓ : Loc nD τ sig) → Buf (Elt Ideal) ℓ) (ρ : Dev nD → PrngReg)

/-- What the program's result array ends holding on core `c`. -/
def result (c : Dev nD) : Buf (Elt Ideal) ((c : Thread nD τ).loc main_v5) :=
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem tail_eq (c : Dev nD) : Pipeline.afterTail₀ cfgs (dats m) 0 (V0 m) [hostOps1] c main_v5 = result m c := by
  refine (tail m c).trans ?_
  rw [Array.final]
  unfold Array.result result value
  rw [host_x, host_w, host_gamma, host_beta, V_main_arg2, V_main_arg3]

/-- THE RUN: the result, and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun _ h c => ⟨((h.1 c).2 main_v5 (Pipeline.mem_restRefs_of main_v5 (by decide) (by decide))).trans (tail_eq m c), h.2 c⟩)
    (θ_run_and (run_main m ρ) (unchanged m ρ))

end Cert.KernelRun

end
-- ==== Proof.Take.lean ====
/-
  TAKING ROWS OF A TABLE, the reference's `jnp.take(table, ids, axis=0)` piece by piece: a row number in range is not
  wrapped, passes the range test, and the gather then reads the table at that row.
-/
module

public import Idealize.ShloMosaic.Lib.ValueIdx
public import Idealize.ShloMosaic.Lib.ReduceAll

@[expose] public section

noncomputable section

namespace Cert.Take

open Idealize.ShloMosaic Idealize.ShloMosaic.ValueIdx

variable {α : Type}

/-- The dimension numbers of a take of whole rows: a table of `N` rows of `C` columns, row numbers `[R, Q, 1]`, result
    `[R, Q, C]`. -/
abbrev rowDims (N C R Q : Nat) (wf : GatherDims.WF ⟨2, ![N, C]⟩ ⟨3, ![R, Q, 1]⟩ ⟨3, ![R, Q, C]⟩ [2] [0] [] [0] [] 2 ![1, C]) :
    GatherDims ⟨2, ![N, C]⟩ ⟨3, ![R, Q, 1]⟩ ⟨3, ![R, Q, C]⟩ where
  offsetDims := [2]
  collapsedSliceDims := [0]
  operandBatchingDims := []
  startIndicesBatchingDims := []
  startIndexMap := [0]
  indexVectorDim := 2
  sliceSizes := ![1, C]
  wf := wf

/-- The take read at an index: the table at the row the row number says, when it is in range, and at the same column. -/
theorem take_row {N C R Q : Nat} (wf) (x : (⟨2, ![N, C]⟩ : Shape).Idx → α) (idx : IVec ⟨3, ![R, Q, 1]⟩ 32)
    (a : Fin R) (q : Fin Q) (l : Fin C) (n : Fin N) (h : (idx (ix3 a q 0)).toInt.toNat = n.val) :
    Host.gather (rowDims N C R Q wf) x idx (ix3 a q l) = x (ix2 n l) := by
  show x ((rowDims N C R Q wf).operandIdx (ix3 a q l) idx) = _
  refine congrArg x (funext fun d => Fin.ext ?_)
  show (rowDims N C R Q wf).start (ix3 a q l) idx d + (rowDims N C R Q wf).batchCoord (ix3 a q l) d
      + (rowDims N C R Q wf).offCoord (ix3 a q l) d = _
  rw [GatherDims.batchCoord_eq_zero _ _ _ List.not_mem_nil, Nat.add_zero]
  match d with
  | ⟨0, _⟩ =>
    rw [GatherDims.offCoord_eq_zero _ _ _ fun hk => ((GatherDims.mem_sKept _ _).1 hk).1 (List.mem_singleton.2 rfl)]
    have hs : (rowDims N C R Q wf).siIdx (ix3 a q l) ⟨0, Nat.one_pos⟩ = ix3 a q 0 := by
      funext b
      match b with
      | ⟨0, _⟩ => rfl
      | ⟨1, _⟩ => rfl
      | ⟨2, _⟩ => rfl
    show min (idx ((rowDims N C R Q wf).siIdx (ix3 a q l) ⟨0, Nat.one_pos⟩)).toInt.toNat (N - 1) + 0 = n.val
    rw [hs, h]
    omega
  | ⟨1, _⟩ =>
    show 0 + (rowDims N C R Q wf).offCoord (ix3 a q l) 1 = l.val
    rw [Nat.zero_add]
    rfl

/-- A word that is not negative passes through the wrap of negative row numbers. -/
theorem wrap {w n : BitVec 32} (h : 0 ≤ w.toInt) :
    Scalar.select (IntOp.cmpi .slt w 0#32) n w = w := by
  have : IntOp.cmpi .slt w 0#32 = 0#1 := by
    simp [IntOp.cmpi, BitVec.slt, not_lt.mpr h]
  rw [this]; rfl

/-- A word between 0 and the last row passes the range test. -/
theorem inRange {w n : BitVec 32} (h : 0 ≤ w.toInt) (hn : w.toInt ≤ n.toInt) :
    IntOp.andi (IntOp.cmpi .sge w 0#32) (IntOp.cmpi .sle w n) = 1#1 := by
  simp [IntOp.cmpi, IntOp.andi, BitVec.sle, h, hn]

end Cert.Take

end
-- ==== Proof.Reference.lean ====
/-
  THE REFERENCE'S RESULT at an index: the row formula of Proof/Row.lean at the embedded row, when every segment id is 0 or 1.
-/
module

public import proofs.«01_k».proof.Proof.Gen.ReferenceIdeal.Read
public import proofs.«01_k».proof.Proof.Take
public import proofs.«01_k».proof.Proof.Embed

@[expose] public section

set_option maxRecDepth 16384

noncomputable section

namespace Cert.Reference

open Cert.ReferenceIdeal Cert.ReferenceIdeal.Gen Cert.ReferenceIdeal.Read
open Idealize.ShloMosaic Idealize.ShloMosaic.ValueIdx

/-! ## The take of the position table -/

/-- A small number read signed off its word is itself. -/
theorem pos_toInt (n : Nat) (h : n < 4096) : (BitVec.ofNat 32 n).toInt = n := by
  have e : (BitVec.ofNat 32 n).toNat = n := by rw [BitVec.toNat_ofNat]; omega
  rw [BitVec.toInt_eq_toNat_of_lt (by rw [e]; omega), e]

/-- The row number at a position is the position. -/
theorem pos_row (i : S1x4096.Idx) : val_main_call0_v4 (F := Ideal) i = BitVec.ofNat 32 (i 1).val := by
  have hi : (i 1).val < 4096 := (i 1).isLt
  rw [val_main_call0_v4_apply, val_main_call0_v1_apply, val_main_call0_v0_apply, val_main_call0_c_apply,
    val_main_v1_apply, val_main_v0_apply]
  refine Take.wrap ?_
  show 0 ≤ (BitVec.ofNat 32 (i 1).val).toInt
  rw [pos_toInt _ hi]
  omega

/-- Every row number is in range. -/
theorem pos_inRange (i : S1x4096.Idx) : val_main_call0_v12 (F := Ideal) i = 1#1 := by
  unfold val_main_call0_v12
  refine Host.reduce_andi_one _ _ _ _ _ rfl fun k => ?_
  have hk : (k 1).val < 4096 := (k 1).isLt
  rw [val_main_call0_v11_apply, val_main_call0_v7_apply, val_main_call0_v10_apply, val_main_call0_v5_apply,
    val_main_call0_v6_apply, val_main_call0_c_2_apply, val_main_call0_v9_apply, val_main_call0_v8_apply,
    val_main_call0_c_1_apply, pos_row]
  refine Take.inRange ?_ ?_
  · rw [pos_toInt _ hk]; omega
  · rw [pos_toInt _ hk, pos_toInt 4095 (by decide)]; omega

/-- The taken position table at an index. -/
theorem pos_apply (x2 : FVec Ideal S4096x1024 .f32) (b : Fin 4) (s : Fin 4096) (l : Fin 1024) :
    val_main_v4 (F := Ideal) x2 (ix3 b s l) = x2 (ix2 s l) := by
  rw [val_main_v4_apply, val_main_v2_apply, val_main_call0_v14_apply, pos_inRange, select_one]
  have e : idx_main_v4 (ix3 b s l) = ix3 0 s l := by
    funext a; match a with | ⟨0, _⟩ => rfl | ⟨1, _⟩ => rfl | ⟨2, _⟩ => rfl
  rw [e]
  refine Take.take_row _ x2 _ 0 s l s ?_
  rw [val_main_call0_v5_apply, pos_row]
  show (BitVec.ofNat 32 s.val).toInt.toNat = s.val
  rw [pos_toInt _ s.isLt]; rfl

/-! ## The take of the segment table -/

section
variable (x1 : IVec S4x4096 32) (h1 : ∀ i, x1 i = 0#32 ∨ x1 i = 1#32)
include h1

theorem id_nonneg (i : S4x4096.Idx) : 0 ≤ (x1 i).toInt ∧ (x1 i).toInt ≤ (1#32).toInt := by
  rcases h1 i with h | h <;> rw [h] <;> decide

theorem seg_row (i : S4x4096.Idx) : val_main_call1_v4 (F := Ideal) x1 i = x1 i := by
  rw [val_main_call1_v4_apply, val_main_call1_v1_apply, val_main_call1_v0_apply, val_main_call1_c_apply]
  exact Take.wrap (id_nonneg x1 h1 i).1

theorem seg_inRange (i : S4x4096.Idx) : val_main_call1_v12 (F := Ideal) x1 i = 1#1 := by
  unfold val_main_call1_v12
  refine Host.reduce_andi_one _ _ _ _ _ rfl fun k => ?_
  rw [val_main_call1_v11_apply, val_main_call1_v7_apply, val_main_call1_v10_apply, val_main_call1_v5_apply,
    val_main_call1_v6_apply, val_main_call1_c_2_apply, val_main_call1_v9_apply, val_main_call1_v8_apply,
    val_main_call1_c_1_apply, seg_row x1 h1]
  exact Take.inRange (id_nonneg x1 h1 _).1 (id_nonneg x1 h1 _).2

/-- The taken segment table at an index. -/
theorem seg_apply (x3 : FVec Ideal S2x1024 .f32) (b : Fin 4) (s : Fin 4096) (l : Fin 1024) :
    val_main_v3 (F := Ideal) x1 x3 (ix3 b s l) = Embed.segment x3 (x1 (ix2 b s)) l := by
  rw [val_main_v3_apply, val_main_call1_v14_apply, seg_inRange x1 h1, select_one]
  have e : idx_main_call1_v5 (ix3 b s 0) = ix2 b s := by
    funext a; match a with | ⟨0, _⟩ => rfl | ⟨1, _⟩ => rfl
  have hr : ∀ n : Fin 2, (x1 (ix2 b s)).toInt.toNat = n.val →
      val_main_call1_v13 (F := Ideal) x1 x3 (ix3 b s l) = x3 (ix2 n l) := fun n hn =>
    Take.take_row _ x3 _ b s l n (by rw [val_main_call1_v5_apply, seg_row x1 h1, e]; exact hn)
  unfold Embed.segment
  rcases h1 (ix2 b s) with h | h
  · rw [if_pos h]; exact hr 0 (by rw [h]; decide)
  · rw [if_neg (by rw [h]; decide)]; exact hr 1 (by rw [h]; decide)

/-! ## The row -/

variable (x0 : FVec Ideal S4x4096x1024 .f32) (x2 : FVec Ideal S4096x1024 .f32) (x3 : FVec Ideal S2x1024 .f32)

theorem row_apply (b : Fin 4) (s : Fin 4096) (l : Fin 1024) :
    val_main_v6 (F := Ideal) x0 x1 x2 x3 (ix3 b s l) = Embed.embed x0 x1 x2 x3 b s l := by
  rw [val_main_v6_apply, val_main_v5_apply, pos_apply, seg_apply x1 h1]
  rfl

theorem mean_apply (b : Fin 4) (s : Fin 4096) :
    val_main_v10 (F := Ideal) x0 x1 x2 x3 (ix3 b s 0) = Row.rMean (Embed.embed x0 x1 x2 x3 b s) := by
  rw [val_main_v10_apply, val_main_v8_apply, val_main_v7_apply, val_main_v9_apply, val_main_cst_apply,
    val_main_cst_0_apply, Ideal.hostDivf_def]
  unfold Row.rMean
  have e : ∀ k : Fin 1024, val_main_v6 (F := Ideal) x0 x1 x2 x3 (idx_main_v7 (idx_main_v8 (ix3 b s 0)) k)
      = Embed.embed x0 x1 x2 x3 b s k := fun k => by
    rw [← row_apply x1 h1 x0 x2 x3]
    exact congrArg _ (funext fun a => match a with | ⟨0, _⟩ => rfl | ⟨1, _⟩ => rfl | ⟨2, _⟩ => rfl)
  rw [Finset.sum_congr rfl fun k _ => e k]
  show Ideal.div (Ideal.ofBits .f32 0x00000000#32 + _) Row.width = _
  rw [Row.zero_eq, zero_add]

theorem centred_apply (b : Fin 4) (s : Fin 4096) (l : Fin 1024) :
    val_main_v12 (F := Ideal) x0 x1 x2 x3 (ix3 b s l)
      = Embed.embed x0 x1 x2 x3 b s l - Row.rMean (Embed.embed x0 x1 x2 x3 b s) := by
  have e : idx_main_v11 (ix3 b s l) = ix3 b s 0 := by
    funext a; match a with | ⟨0, _⟩ => rfl | ⟨1, _⟩ => rfl | ⟨2, _⟩ => rfl
  rw [val_main_v12_apply, val_main_v11_apply, e, row_apply x1 h1, mean_apply x1 h1]
  rfl

theorem dev_apply (b : Fin 4) (s : Fin 4096) :
    val_main_v22 (F := Ideal) x0 x1 x2 x3 (ix3 b s 0) = Row.rDev (Embed.embed x0 x1 x2 x3 b s) := by
  rw [val_main_v22_apply, val_main_v21_apply, val_main_v20_apply, val_main_cst_3_apply, val_main_v17_apply,
    val_main_v16_apply, val_main_cst_2_apply, val_main_v15_apply, val_main_v14_apply, val_main_cst_1_apply,
    Ideal.hostDivf_def]
  unfold Row.rDev
  have e : ∀ k : Fin 1024, val_main_v13 (F := Ideal) x0 x1 x2 x3 (idx_main_v14 (idx_main_v15 (ix3 b s 0)) k)
      = (Embed.embed x0 x1 x2 x3 b s k - Row.rMean (Embed.embed x0 x1 x2 x3 b s))
        * (Embed.embed x0 x1 x2 x3 b s k - Row.rMean (Embed.embed x0 x1 x2 x3 b s)) := fun k => by
    rw [← centred_apply x1 h1 x0 x2 x3, val_main_v13_apply]
    have ei : idx_main_v14 (idx_main_v15 (ix3 b s 0)) k = ix3 b s k :=
      funext fun a => match a with | ⟨0, _⟩ => rfl | ⟨1, _⟩ => rfl | ⟨2, _⟩ => rfl
    rw [ei]; rfl
  rw [Finset.sum_congr rfl fun k _ => e k]
  show Ideal.sqrt (Ideal.div (Ideal.ofBits .f32 0x00000000#32 + _) Row.width + Row.small) = _
  rw [Row.zero_eq, zero_add]

/-- THE REFERENCE AT AN INDEX. -/
theorem result_apply (x4 x5 : FVec Ideal S1024 .f32) (b : Fin 4) (s : Fin 4096) (l : Fin 1024) :
    val_main_v30 (F := Ideal) x0 x1 x2 x3 x4 x5 (ix3 b s l)
      = Row.rRow (Embed.embed x0 x1 x2 x3 b s) (x4 (ix1 l)) (x5 (ix1 l)) l := by
  have e18 : idx_main_v18 (ix3 b s l) = ix3 b s 0 := by
    funext a; match a with | ⟨0, _⟩ => rfl | ⟨1, _⟩ => rfl | ⟨2, _⟩ => rfl
  have e23 : idx_main_v23 (ix3 b s l) = ix3 b s 0 := by
    funext a; match a with | ⟨0, _⟩ => rfl | ⟨1, _⟩ => rfl | ⟨2, _⟩ => rfl
  have e4 : idx_main_v25 (idx_main_v26 (ix3 b s l)) = ix1 l := by
    funext a; match a with | ⟨0, _⟩ => rfl
  have e5 : idx_main_v28 (idx_main_v29 (ix3 b s l)) = ix1 l := by
    funext a; match a with | ⟨0, _⟩ => rfl
  rw [val_main_v30_apply, val_main_v29_apply, val_main_v28_apply, e5, val_main_v27_apply, val_main_v26_apply,
    val_main_v25_apply, e4, val_main_v24_apply, val_main_v23_apply, e23, dev_apply x1 h1, val_main_v19_apply,
    val_main_v18_apply, e18, mean_apply x1 h1, row_apply x1 h1]
  rfl

end

end Cert.Reference

end
-- ==== Proof.Pre.lean ====
/-
  WHAT THE PRECONDITION SAYS, over the extended reals: every entry of the input, the two tables and the gain is a real
  number, and every segment id is 0 or 1.
-/
module

public import proofs.«01_k».proof.Defs
public import Idealize.ShloMosaic.PureOps.Ideal.Laws

@[expose] public section

noncomputable section

namespace Cert.Pre

open Idealize.ShloMosaic Cert.Pre_finite_args

instance facts : Cert.Pre_finite_args.Facts where
  bcast_S_S4x4096x1024 := by decide
  bcast_S_S4x4096 := by decide
  bcast_S_S4096x1024 := by decide
  bcast_S_S2x1024 := by decide
  bcast_S_S1024 := by decide

/-- The bound the precondition compares with is infinity. -/
theorem bound_eq : Ideal.ofBits .f32 0x7F800000#32 = (⊤ : EReal) := by
  simp [Ideal.ofBits, Ideal.ieee]

/-- A number whose magnitude is below infinity is real. -/
theorem real_of_lt {x : EReal} (h : max x (-x) < ⊤) : ∃ r : ℝ, x = (r : EReal) := by
  induction x with
  | bot => simp at h
  | coe r => exact ⟨r, rfl⟩
  | top => simp at h

/-- One comparison of the precondition, read. -/
theorem finite_of {x : EReal} (h : Ideal.cmp .olt (max x (-x)) (Ideal.ofBits .f32 0x7F800000#32) = 1#1) :
    ∃ r : ℝ, x = (r : EReal) := by
  rw [bound_eq] at h
  apply real_of_lt
  by_contra hn
  simp [Ideal.cmp, hn] at h

/-- A word between 0 and 1 is 0 or 1. -/
theorem bit_of (w : BitVec 32) (h : IntOp.cmpi .sge w 0#32 &&& IntOp.cmpi .sle w 1#32 = 1#1) : w = 0#32 ∨ w = 1#32 := by
  have h2 : (0#32).sle w = true ∧ w.sle 1#32 = true := by
    revert h
    simp only [IntOp.cmpi]
    cases (0#32).sle w <;> cases w.sle 1#32 <;> decide
  obtain ⟨ha, hb⟩ := h2
  simp only [BitVec.sle, decide_eq_true_eq] at ha hb
  have h0 : (0#32 : BitVec 32).toInt = 0 := by decide
  have h1 : (1#32 : BitVec 32).toInt = 1 := by decide
  rw [h0] at ha
  rw [h1] at hb
  have hw : w.toInt = 0 ∨ w.toInt = 1 := by omega
  rcases hw with hw | hw
  · exact .inl (BitVec.eq_of_toInt_eq (hw.trans h0.symm))
  · exact .inr (BitVec.eq_of_toInt_eq (hw.trans h1.symm))

variable (x0 : FVec Ideal S4x4096x1024 .f32) (x1 : IVec S4x4096 32) (x2 : FVec Ideal S4096x1024 .f32)
  (x3 : FVec Ideal S2x1024 .f32) (x4 x5 : FVec Ideal S1024 .f32)

theorem input_real (h : (fn (F := Ideal) x0 x1 x2 x3 x4 x5).1 = fun _ => 1#1) (i) : ∃ r : ℝ, x0 i = (r : EReal) :=
  finite_of (congrFun h i)

theorem ids (h : (fn (F := Ideal) x0 x1 x2 x3 x4 x5).2.1 = fun _ => 1#1) (i) : x1 i = 0#32 ∨ x1 i = 1#32 :=
  bit_of _ (congrFun h i)

theorem pos_real (h : (fn (F := Ideal) x0 x1 x2 x3 x4 x5).2.2.1 = fun _ => 1#1) (i) : ∃ r : ℝ, x2 i = (r : EReal) :=
  finite_of (congrFun h i)

theorem seg_real (h : (fn (F := Ideal) x0 x1 x2 x3 x4 x5).2.2.2.1 = fun _ => 1#1) (i) : ∃ r : ℝ, x3 i = (r : EReal) :=
  finite_of (congrFun h i)

theorem gain_real (h : (fn (F := Ideal) x0 x1 x2 x3 x4 x5).2.2.2.2 = fun _ => 1#1) (i) : ∃ r : ℝ, x4 i = (r : EReal) :=
  finite_of (congrFun h i)

end Cert.Pre

end
-- ==== Proof.Agree.lean ====
/-
  THE TWO RESULTS AGREE: under the precondition every embedded row is real, so the kernel's row formula is the reference's.
-/
module

public import proofs.«01_k».proof.Proof.KernelRun
public import proofs.«01_k».proof.Proof.Reference
public import proofs.«01_k».proof.Proof.Pre

@[expose] public section

noncomputable section

namespace Cert.Agree

open Idealize.ShloMosaic Idealize.ShloMosaic.TcCoe Idealize.SL.Sem

/-- A row that embeds real entries is real. -/
theorem embed_real (x0 : FVec Ideal ⟨3, ![4, 4096, 1024]⟩ .f32) (x1 : IVec ⟨2, ![4, 4096]⟩ 32)
    (x2 : FVec Ideal ⟨2, ![4096, 1024]⟩ .f32) (x3 : FVec Ideal ⟨2, ![2, 1024]⟩ .f32)
    (h0 : ∀ i, ∃ r : ℝ, x0 i = (r : EReal)) (h2 : ∀ i, ∃ r : ℝ, x2 i = (r : EReal)) (h3 : ∀ i, ∃ r : ℝ, x3 i = (r : EReal))
    (b : Fin 4) (s : Fin 4096) : ∃ e : Fin 1024 → ℝ, Embed.embed x0 x1 x2 x3 b s = fun k => (e k : EReal) := by
  have h : ∀ k, ∃ r : ℝ, Embed.embed x0 x1 x2 x3 b s k = (r : EReal) := by
    intro k
    obtain ⟨a, ha⟩ := h0 (ValueIdx.ix3 b s k)
    obtain ⟨p, hp⟩ := h2 (ValueIdx.ix2 s k)
    obtain ⟨q, hq⟩ : ∃ q : ℝ, Embed.segment x3 (x1 (ValueIdx.ix2 b s)) k = (q : EReal) := by
      unfold Embed.segment
      split
      · exact h3 _
      · exact h3 _
    refine ⟨a + p + q, ?_⟩
    unfold Embed.embed
    rw [ha, hp, hq, EReal.coe_add, EReal.coe_add]
  choose e he using h
  exact ⟨e, funext he⟩

/-- The kernel's value is the reference's. -/
theorem value_eq (x0 : FVec Ideal ⟨3, ![4, 4096, 1024]⟩ .f32) (x1 : IVec ⟨2, ![4, 4096]⟩ 32)
    (x2 : FVec Ideal ⟨2, ![4096, 1024]⟩ .f32) (x3 : FVec Ideal ⟨2, ![2, 1024]⟩ .f32) (x4 x5 : FVec Ideal ⟨1, ![1024]⟩ .f32)
    (h0 : ∀ i, ∃ r : ℝ, x0 i = (r : EReal)) (h1 : ∀ i, x1 i = 0#32 ∨ x1 i = 1#32)
    (h2 : ∀ i, ∃ r : ℝ, x2 i = (r : EReal)) (h3 : ∀ i, ∃ r : ℝ, x3 i = (r : EReal)) (h4 : ∀ i, ∃ r : ℝ, x4 i = (r : EReal)) :
    KernelRun.value x0 x1 x2 x3 x4 x5 = ReferenceIdeal.Read.val_main_v30 (F := Ideal) x0 x1 x2 x3 x4 x5 := by
  funext i
  obtain ⟨b, s, l, rfl⟩ : ∃ (b : Fin 4) (s : Fin 4096) (l : Fin 1024), i = ix3 b s l :=
    ⟨i 0, i 1, i 2, by
      funext a
      match a with
      | ⟨0, _⟩ => rfl
      | ⟨1, _⟩ => rfl
      | ⟨2, _⟩ => rfl⟩
  refine (KernelRun.value_apply x0 x1 x2 x3 x4 x5 b s l).trans ?_
  rw [ix3_eq_valueIdx, ix1_eq_valueIdx]
  refine Eq.trans ?_ (Reference.result_apply x1 h1 x0 x2 x3 x4 x5 b s l).symm
  obtain ⟨e, he⟩ := embed_real x0 x1 x2 x3 h0 h2 h3 b s
  obtain ⟨g, hg⟩ := h4 (ValueIdx.ix1 l)
  rw [he, hg]
  exact Row.kRow_eq_rRow e g _ _

end Cert.Agree

end
-- ==== Proof.lean ====
/-
  THE PROOF of `Cert.Claim`: the frames of the program, of its idealization and of the reference; the idealization, which
  rewrote nothing; and the equality of the two results over the extended reals (Proof/Agree.lean), through the kernel's run
  (Proof/KernelRun.lean) and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The program ends with its arguments unchanged and its counters at zero. -/
theorem frame_p : Cert.quiescent_Kernel := fun m ρ _ => Cert.Kernel.Gen.frame m ρ

/-- So does its idealization, with and without the precondition. -/
theorem frame_pi : Cert.quiescent_KernelIdeal := fun m ρ _ => Cert.KernelIdeal.Gen.frame m ρ
theorem frame_pi_pre : Cert.quiescent_KernelIdeal_pre_finite_args := fun m ρ _ => Cert.KernelIdeal.Gen.frame m ρ

/-- The reference's run keeps its arguments, and it declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite_args := fun m ρ _ => frame_ri m ρ trivial

/-- The two results are equal: the kernel's run ends at its value, the reference's at its own, and the values agree. -/
theorem algebraic : Cert.algebraic_KernelIdeal_ReferenceIdeal_pre_finite_args := by
  intro m ρ m' ρ' hpre hagree
  refine ⟨fun c => KernelRun.result m c, KernelRun.run m ρ, ?_⟩
  refine (θ_run Cert.ReferenceIdeal.defs _ _).mono (fun r h c => ⟨(h c).1.trans ?_, (h c).2⟩)
    (Cert.ReferenceIdeal.Value.run (F := Ideal) m' ρ')
  obtain ⟨p0, p1, p2, p3, p4⟩ := hpre c
  obtain ⟨a0, a1, a2, a3, a4, a5⟩ := hagree c
  rw [Cert.ReferenceIdeal.Read.val_main_v30_eq, a0, a1, a2, a3, a4, a5]
  exact (Agree.value_eq _ _ _ _ _ _ (Pre.input_real _ _ _ _ _ _ p0) (Pre.ids _ _ _ _ _ _ p1) (Pre.pos_real _ _ _ _ _ _ p2)
    (Pre.seg_real _ _ _ _ _ _ p3) (Pre.gain_real _ _ _ _ _ _ p4)).symm

theorem claim : Cert.Claim :=
  ⟨Cert.Kernel.Gen.facts, Cert.KernelIdeal.Gen.facts, Cert.ReferenceIdeal.Gen.facts, Pre.facts,
    frame_p, frame_pi, frame_pi_pre, frame_ri, frame_ri_pre, trivial, algebraic⟩

end Cert.Proof

end
